-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x8192 : Shape := ⟨3, ![24, 1, 8192]⟩
abbrev S4096x45056 : Shape := ⟨2, ![4096, 45056]⟩
abbrev S64x45056 : Shape := ⟨2, ![64, 45056]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S24x8192 : Shape := ⟨2, ![24, 8192]⟩
abbrev S24x45056 : Shape := ⟨2, ![24, 45056]⟩
abbrev S4096x1024 : Shape := ⟨2, ![4096, 1024]⟩
abbrev S64x1024 : Shape := ⟨2, ![64, 1024]⟩
abbrev S24x1024 : Shape := ⟨2, ![24, 1024]⟩
abbrev S24x128 : Shape := ⟨2, ![24, 128]⟩
abbrev S128x1024 : Shape := ⟨2, ![128, 1024]⟩
abbrev S128x1x1024 : Shape := ⟨3, ![128, 1, 1024]⟩
abbrev S128x2x1024 : Shape := ⟨3, ![128, 2, 1024]⟩
abbrev S256x1024 : Shape := ⟨2, ![256, 1024]⟩
abbrev S1x1024 : Shape := ⟨2, ![1, 1024]⟩
abbrev S24x256 : Shape := ⟨2, ![24, 256]⟩
abbrev S24x1x45056 : Shape := ⟨3, ![24, 1, 45056]⟩

abbrev nBuf : Space → Nat
  | .hbm => 39
  | .vmem => 9
  | .smem => 0
  | _ => 0

abbrev bufTy : (tb : Table) → Fin (tcTables nBuf tb) → BufTy
  | .hbm, ⟨0, _⟩ => ⟨S24x1x8192, .bf16⟩
  | .hbm, ⟨1, _⟩ => ⟨S4096x45056, .i8⟩
  | .hbm, ⟨2, _⟩ => ⟨S64x45056, .bf16⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S1x2, .f32⟩
  | .hbm, ⟨7, _⟩ => ⟨S1x2, .f32⟩
  | .hbm, ⟨8, _⟩ => ⟨S2x2, .f32⟩
  | .hbm, ⟨9, _⟩ => ⟨S2x2, .f32⟩
  | .hbm, ⟨10, _⟩ => ⟨S2x4, .f32⟩
  | .hbm, ⟨11, _⟩ => ⟨S2x4, .f32⟩
  | .hbm, ⟨12, _⟩ => ⟨S4x4, .f32⟩
  | .hbm, ⟨13, _⟩ => ⟨S4x4, .f32⟩
  | .hbm, ⟨14, _⟩ => ⟨S4x8, .f32⟩
  | .hbm, ⟨15, _⟩ => ⟨S4x8, .f32⟩
  | .hbm, ⟨16, _⟩ => ⟨S8x8, .f32⟩
  | .hbm, ⟨17, _⟩ => ⟨S8x8, .f32⟩
  | .hbm, ⟨18, _⟩ => ⟨S8x16, .f32⟩
  | .hbm, ⟨19, _⟩ => ⟨S8x16, .f32⟩
  | .hbm, ⟨20, _⟩ => ⟨S16x16, .f32⟩
  | .hbm, ⟨21, _⟩ => ⟨S16x16, .f32⟩
  | .hbm, ⟨22, _⟩ => ⟨S16x32, .f32⟩
  | .hbm, ⟨23, _⟩ => ⟨S16x32, .f32⟩
  | .hbm, ⟨24, _⟩ => ⟨S32x32, .f32⟩
  | .hbm, ⟨25, _⟩ => ⟨S32x32, .f32⟩
  | .hbm, ⟨26, _⟩ => ⟨S32x64, .f32⟩
  | .hbm, ⟨27, _⟩ => ⟨S32x64, .f32⟩
  | .hbm, ⟨28, _⟩ => ⟨S64x64, .f32⟩
  | .hbm, ⟨29, _⟩ => ⟨S64x64, .f32⟩
  | .hbm, ⟨30, _⟩ => ⟨S64x128, .f32⟩
  | .hbm, ⟨31, _⟩ => ⟨S64x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S24x8192, .bf16⟩
  | .hbm, ⟨37, _⟩ => ⟨S24x45056, .bf16⟩
  | .hbm, ⟨38, _⟩ => ⟨S24x1x45056, .bf16⟩
  | .local _ .vmem, ⟨0, _⟩ => ⟨S24x8192, .bf16⟩
  | .local _ .vmem, ⟨1, _⟩ => ⟨S128x128, .f32⟩
  | .local _ .vmem, ⟨2, _⟩ => ⟨S4096x1024, .i8⟩
  | .local _ .vmem, ⟨3, _⟩ => ⟨S4096x1024, .i8⟩
  | .local _ .vmem, ⟨4, _⟩ => ⟨S64x1024, .bf16⟩
  | .local _ .vmem, ⟨5, _⟩ => ⟨S64x1024, .bf16⟩
  | .local _ .vmem, ⟨6, _⟩ => ⟨S24x1024, .bf16⟩
  | .local _ .vmem, ⟨7, _⟩ => ⟨S24x1024, .bf16⟩
  | .local _ .vmem, ⟨8, _⟩ => ⟨S24x8192, .bf16⟩
  | _, _ => ⟨S24x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_call2_v0 : Ref sig .tc := ⟨.hbm, 14, rfl⟩
abbrev main_call2_v1 : Ref sig .tc := ⟨.hbm, 15, rfl⟩
abbrev main_v6 : Ref sig .tc := ⟨.hbm, 16, rfl⟩
abbrev main_v7 : Ref sig .tc := ⟨.hbm, 17, rfl⟩
abbrev main_call3_v0 : Ref sig .tc := ⟨.hbm, 18, rfl⟩
abbrev main_call3_v1 : Ref sig .tc := ⟨.hbm, 19, rfl⟩
abbrev main_v8 : Ref sig .tc := ⟨.hbm, 20, rfl⟩
abbrev main_v9 : Ref sig .tc := ⟨.hbm, 21, rfl⟩
abbrev main_call4_v0 : Ref sig .tc := ⟨.hbm, 22, rfl⟩
abbrev main_call4_v1 : Ref sig .tc := ⟨.hbm, 23, rfl⟩
abbrev main_v10 : Ref sig .tc := ⟨.hbm, 24, rfl⟩
abbrev main_v11 : Ref sig .tc := ⟨.hbm, 25, rfl⟩
abbrev main_call5_v0 : Ref sig .tc := ⟨.hbm, 26, rfl⟩
abbrev main_call5_v1 : Ref sig .tc := ⟨.hbm, 27, rfl⟩
abbrev main_v12 : Ref sig .tc := ⟨.hbm, 28, rfl⟩
abbrev main_v13 : Ref sig .tc := ⟨.hbm, 29, rfl⟩
abbrev main_call6_v0 : Ref sig .tc := ⟨.hbm, 30, rfl⟩
abbrev main_call6_v1 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1x8192 : Shape := ⟨3, ![24, 1, 8192]⟩
abbrev S4096x45056 : Shape := ⟨2, ![4096, 45056]⟩
abbrev S64x45056 : Shape := ⟨2, ![64, 45056]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S24x64x128 : Shape := ⟨3, ![24, 64, 128]⟩
abbrev S128x64 : Shape := ⟨2, ![128, 64]⟩
abbrev S24x64x64 : Shape := ⟨3, ![24, 64, 64]⟩
abbrev S24x4096 : Shape := ⟨2, ![24, 4096]⟩
abbrev S64x64x45056 : Shape := ⟨3, ![64, 64, 45056]⟩
abbrev S64x1x45056 : Shape := ⟨3, ![64, 1, 45056]⟩
abbrev S24x45056 : Shape := ⟨2, ![24, 45056]⟩
abbrev S24x1x45056 : Shape := ⟨3, ![24, 1, 45056]⟩

abbrev nBuf : Space → Nat
  | .hbm => 74
  | .vmem => 0
  | .smem => 0
  | _ => 0

abbrev bufTy : (tb : Table) → Fin (tcTables nBuf tb) → BufTy
  | .hbm, ⟨0, _⟩ => ⟨S24x1x8192, .bf16⟩
  | .hbm, ⟨1, _⟩ => ⟨S4096x45056, .i8⟩
  | .hbm, ⟨2, _⟩ => ⟨S64x45056, .bf16⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S1x2, .f32⟩
  | .hbm, ⟨7, _⟩ => ⟨S1x2, .f32⟩
  | .hbm, ⟨8, _⟩ => ⟨S2x2, .f32⟩
  | .hbm, ⟨9, _⟩ => ⟨S2x2, .f32⟩
  | .hbm, ⟨10, _⟩ => ⟨S2x4, .f32⟩
  | .hbm, ⟨11, _⟩ => ⟨S2x4, .f32⟩
  | .hbm, ⟨12, _⟩ => ⟨S4x4, .f32⟩
  | .hbm, ⟨13, _⟩ => ⟨S4x4, .f32⟩
  | .hbm, ⟨14, _⟩ => ⟨S4x8, .f32⟩
  | .hbm, ⟨15, _⟩ => ⟨S4x8, .f32⟩
  | .hbm, ⟨16, _⟩ => ⟨S8x8, .f32⟩
  | .hbm, ⟨17, _⟩ => ⟨S8x8, .f32⟩
  | .hbm, ⟨18, _⟩ => ⟨S8x16, .f32⟩
  | .hbm, ⟨19, _⟩ => ⟨S8x16, .f32⟩
  | .hbm, ⟨20, _⟩ => ⟨S16x16, .f32⟩
  | .hbm, ⟨21, _⟩ => ⟨S16x16, .f32⟩
  | .hbm, ⟨22, _⟩ => ⟨S16x32, .f32⟩
  | .hbm, ⟨23, _⟩ => ⟨S16x32, .f32⟩
  | .hbm, ⟨24, _⟩ => ⟨S32x32, .f32⟩
  | .hbm, ⟨25, _⟩ => ⟨S32x32, .f32⟩
  | .hbm, ⟨26, _⟩ => ⟨S32x64, .f32⟩
  | .hbm, ⟨27, _⟩ => ⟨S32x64, .f32⟩
  | .hbm, ⟨28, _⟩ => ⟨S64x64, .f32⟩
  | .hbm, ⟨29, _⟩ => ⟨S64x64, .f32⟩
  | .hbm, ⟨30, _⟩ => ⟨S64x128, .f32⟩
  | .hbm, ⟨31, _⟩ => ⟨S64x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S24x1x8192, .f32⟩
  | .hbm, ⟨37, _⟩ => ⟨S24x64x128, .f32⟩
  | .hbm, ⟨38, _⟩ => ⟨S128x64, .f32⟩
  | .hbm, ⟨39, _⟩ => ⟨S24x64x64, .f32⟩
  | .hbm, ⟨40, _⟩ => ⟨S24x64x64, .bf16⟩
  | .hbm, ⟨41, _⟩ => ⟨S24x4096, .bf16⟩
  | .hbm, ⟨42, _⟩ => ⟨S128x64, .f32⟩
  | .hbm, ⟨43, _⟩ => ⟨S24x64x64, .f32⟩
  | .hbm, ⟨44, _⟩ => ⟨S24x64x64, .bf16⟩
  | .hbm, ⟨45, _⟩ => ⟨S24x4096, .bf16⟩
  | .hbm, ⟨46, _⟩ => ⟨S4096x45056, .i8⟩
  | .hbm, ⟨47, _⟩ => ⟨S4096x45056, .i32⟩
  | .hbm, ⟨48, _⟩ => ⟨S_, .i32⟩
  | .hbm, ⟨49, _⟩ => ⟨S4096x45056, .i32⟩
  | .hbm, ⟨50, _⟩ => ⟨S4096x45056, .i32⟩
  | .hbm, ⟨51, _⟩ => ⟨S_, .i32⟩
  | .hbm, ⟨52, _⟩ => ⟨S4096x45056, .i32⟩
  | .hbm, ⟨53, _⟩ => ⟨S4096x45056, .i32⟩
  | .hbm, ⟨54, _⟩ => ⟨S_, .i32⟩
  | .hbm, ⟨55, _⟩ => ⟨S4096x45056, .i32⟩
  | .hbm, ⟨56, _⟩ => ⟨S4096x45056, .i32⟩
  | .hbm, ⟨57, _⟩ => ⟨S4096x45056, .bf16⟩
  | .hbm, ⟨58, _⟩ => ⟨S64x64x45056, .bf16⟩
  | .hbm, ⟨59, _⟩ => ⟨S64x1x45056, .bf16⟩
  | .hbm, ⟨60, _⟩ => ⟨S64x64x45056, .bf16⟩
  | .hbm, ⟨61, _⟩ => ⟨S64x64x45056, .bf16⟩
  | .hbm, ⟨62, _⟩ => ⟨S4096x45056, .bf16⟩
  | .hbm, ⟨63, _⟩ => ⟨S4096x45056, .bf16⟩
  | .hbm, ⟨64, _⟩ => ⟨S64x64x45056, .bf16⟩
  | .hbm, ⟨65, _⟩ => ⟨S64x1x45056, .bf16⟩
  | .hbm, ⟨66, _⟩ => ⟨S64x64x45056, .bf16⟩
  | .hbm, ⟨67, _⟩ => ⟨S64x64x45056, .bf16⟩
  | .hbm, ⟨68, _⟩ => ⟨S4096x45056, .bf16⟩
  | .hbm, ⟨69, _⟩ => ⟨S24x45056, .f32⟩
  | .hbm, ⟨70, _⟩ => ⟨S24x45056, .f32⟩
  | .hbm, ⟨71, _⟩ => ⟨S24x45056, .f32⟩
  | .hbm, ⟨72, _⟩ => ⟨S24x45056, .bf16⟩
  | .hbm, ⟨73, _⟩ => ⟨S24x1x45056, .bf16⟩
  | _, _ => ⟨S24x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_call2_v0 : Ref sig .tc := ⟨.hbm, 14, rfl⟩
abbrev main_call2_v1 : Ref sig .tc := ⟨.hbm, 15, rfl⟩
abbrev main_v6 : Ref sig .tc := ⟨.hbm, 16, rfl⟩
abbrev main_v7 : Ref sig .tc := ⟨.hbm, 17, rfl⟩
abbrev main_call3_v0 : Ref sig .tc := ⟨.hbm, 18, rfl⟩
abbrev main_call3_v1 : Ref sig .tc := ⟨.hbm, 19, rfl⟩
abbrev main_v8 : Ref sig .tc := ⟨.hbm, 20, rfl⟩
abbrev main_v9 : Ref sig .tc := ⟨.hbm, 21, rfl⟩
abbrev main_call4_v0 : Ref sig .tc := ⟨.hbm, 22, rfl⟩
abbrev main_call4_v1 : Ref sig .tc := ⟨.hbm, 23, rfl⟩
abbrev main_v10 : Ref sig .tc := ⟨.hbm, 24, rfl⟩
abbrev main_v11 : Ref sig .tc := ⟨.hbm, 25, rfl⟩
abbrev main_call5_v0 : Ref sig .tc := ⟨.hbm, 26, rfl⟩
abbrev main_call5_v1 : Ref sig .tc := ⟨.hbm, 27, rfl⟩
abbrev main_v12 : Ref sig .tc := ⟨.hbm, 28, rfl⟩
abbrev main_v13 : Ref sig .tc := ⟨.hbm, 29, rfl⟩
abbrev main_call6_v0 : Ref sig .tc := ⟨.hbm, 30, rfl⟩
abbrev main_call6_v1 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_c_1 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Proof.Tile.lean ====
/-
  Hand-written, untrusted. The kernel's two tile steps as functions of the tiles they load: the dequantised 256-row weight
  tile with the product added into the accumulator, and one 128-column block of the rotated input. Both are read at an
  index over the ideal floats.
-/
module

public import proofs.«01_k».proof.Proof.Gen.KernelIdeal.Skeleton
public import Idealize.ShloMosaic.Lib.Pipeline.ValueKit
public import Idealize.ShloMosaic.Lib.Pointwise

@[expose] public section

noncomputable section

namespace Cert.Proof.Tile

open Idealize.ShloMosaic Cert.KernelIdeal Cert.KernelIdeal.Gen

variable {F : FTy → Type} [FloatOps F]

/-- The signed 4-bit code a packed byte holds for row `r` of its pair: the low nibble at an even row, the high one at an
    odd row. -/
def code (b : BitVec 8) (r : ℕ) : ℤ := if r % 2 < 1 then (b.setWidth 4).toInt else ((b >>> 4).setWidth 4).toInt

/-- Shifting a widened byte left by 28 and back leaves its low nibble in the low four bits. -/
theorem low_word : ∀ b : BitVec 8, BitVec.setWidth 4 (IntOp.shrsi ArithUnit.vector (IntOp.shli ArithUnit.vector
    (BitVec.setWidth 32 b) 28#32) 28#32) = b.setWidth 4 := by decide +kernel

/-- Shifting a widened byte left by 24 and right by 28 leaves its high nibble in the low four bits. -/
theorem high_word : ∀ b : BitVec 8, BitVec.setWidth 4 (IntOp.shrsi ArithUnit.vector (IntOp.shli ArithUnit.vector
    (BitVec.setWidth 32 b) 24#32) 28#32) = (b >>> 4).setWidth 4 := by decide +kernel

/-- The signed 4-bit codes of 128 packed rows as 256 rows of floats: row `2 r` the low nibbles of row `r`, row `2 r + 1`
    the high ones. -/
def codes (p : Vec F S128x1024 .i8) : FVec F S256x1024 .bf16 :=
  sitofp .bf16 (trunci 4 (shapeCast S256x1024 (concatenate S128x2x1024 1
    [⟨S128x1x1024, shapeCast S128x1x1024 (shrsi (shli (extui 32 p natLt_8_32) (broadcast S128x1024 28#32)) (broadcast S128x1024 28#32)) shapeCasts_S128x1024_S128x1x1024⟩,
     ⟨S128x1x1024, shapeCast S128x1x1024 (shrsi (shli (extui 32 p natLt_8_32) (broadcast S128x1024 24#32)) (broadcast S128x1024 28#32)) shapeCasts_S128x1024_S128x1x1024⟩]
    concatenates_S128x1x1024_S128x1x1024_S128x2x1024_d1) shapeCasts_S128x2x1024_S256x1024) natLt_4_32)

/-- The dequantised 256-row weight tile: the codes, the first 128 rows times the scale row `s0`, the others times `s1`. -/
def deq (p : Vec F S128x1024 .i8) (s0 s1 : Vec F S1x1024 .bf16) : FVec F S256x1024 .bf16 :=
  concatenate S256x1024 0
    [⟨S128x1024, mulf (extractStridedSlice S128x1024 ![0, 0] (codes p) slices_S256x1024_o0_0_S128x1024) (broadcastTo S128x1024 s0 broadcasts_S1x1024_S128x1024)⟩,
     ⟨S128x1024, mulf (extractStridedSlice S128x1024 ![128, 0] (codes p) slices_S256x1024_o128_0_S128x1024) (broadcastTo S128x1024 s1 broadcasts_S1x1024_S128x1024)⟩]
    concatenates_S128x1024_S128x1024_S256x1024_d0

/-- One step of the accumulation: the product of 256 columns of the rotated input with a weight tile, added to `acc`. -/
def step (acc : FVec F S24x1024 .f32) (p : Vec F S128x1024 .i8) (s0 s1 : Vec F S1x1024 .bf16) (xr : Vec F S24x256 .bf16) :
    FVec F S24x1024 .f32 :=
  addf acc (matmul dot_S24x256_S256x1024_S24x1024_1_0_0_1_n_n none xr (deq p s0 s1) (constant S24x1024 .f32 0x00000000#32))

/-- One block of the rotated input: 128 columns of the input times the Hadamard matrix. -/
def rot (x : Vec F S24x128 .bf16) (h : Vec F S128x128 .f32) : FVec F S24x128 .bf16 :=
  shapeCast S24x128 (truncf .bf16 (matmul dot_S24x128_S128x128_S24x128_1_0_0_1_n_n none
    (extf .f32 (shapeCast S24x128 x shapeCasts_S24x128_S24x128) bitsLt_bf16_f32)
    (shapeCast S128x128 h shapeCasts_S128x128_S128x128) (constant S24x128 .f32 0x00000000#32)) bitsLt_bf16_f32)
    shapeCasts_S24x128_S24x128

/-- A rotated block at (m, k) is the sum over the block's 128 columns of the input times the Hadamard matrix's column k. -/
theorem rot_apply (x : Vec Ideal S24x128 .bf16) (h : Vec Ideal S128x128 .f32) (i : Fin 24) (k : Fin 128) :
    rot (F := Ideal) x h (ix2 i k) = ∑ j : Fin 128, (x (ix2 i j) : EReal) * h (ix2 j k) := by
  unfold rot
  pointwise

/-- Row `r` of the codes holds the code of packed row `r / 2` for that row. -/
theorem codes_apply (p : Vec Ideal S128x1024 .i8) (r : Fin 256) (n : Fin 1024) :
    codes (F := Ideal) p (ix2 r n) = (((code (p (ix2 ⟨r.val / 2, by omega⟩ n)) r.val : ℤ) : ℝ) : EReal) := by
  unfold codes code
  pointwise
  split
  · rw [low_word]; rfl
  · rw [high_word]; rfl

/-- The dequantised tile at (r, n): the code times the scale of `r`'s half. -/
theorem deq_apply (p : Vec Ideal S128x1024 .i8) (s0 s1 : Vec Ideal S1x1024 .bf16) (r : Fin 256) (n : Fin 1024) :
    deq (F := Ideal) p s0 s1 (ix2 r n)
      = (((code (p (ix2 ⟨r.val / 2, by omega⟩ n)) r.val : ℤ) : ℝ) : EReal) * (if r.val < 128 then s0 (ix2 0 n) else s1 (ix2 0 n)) := by
  unfold deq
  pointwise
  split
  · rw [codes_apply]
  · rename_i h
    rw [show (ix2 (⟨128 + (r.val - 128), by omega⟩ : Fin 256) n : S256x1024.Idx) = ix2 r n from by
      congr 1; exact Fin.ext (by show 128 + (r.val - 128) = r.val; omega), codes_apply]

/-- A step at (i, n): the accumulator plus the sum over the tile's 256 rows. -/
theorem step_apply (acc : Vec Ideal S24x1024 .f32) (p : Vec Ideal S128x1024 .i8) (s0 s1 : Vec Ideal S1x1024 .bf16)
    (xr : Vec Ideal S24x256 .bf16) (i : Fin 24) (n : Fin 1024) :
    step (F := Ideal) acc p s0 s1 xr (ix2 i n)
      = (acc (ix2 i n) : EReal) + ∑ k : Fin 256, (xr (ix2 i k) : EReal) * deq (F := Ideal) p s0 s1 (ix2 k n) := by
  unfold step
  pointwise

end Cert.Proof.Tile

end
-- ==== Proof.Chain.lean ====
/-
  Hand-written, untrusted. The kernel body's two loops as recursions over the whole staged blocks: the 64 stores that fill
  the rotated input, and the 32 accumulation steps. The rotated input is read at an index; the accumulation is one sum over
  the 8192 weight rows.
-/
module

public import proofs.«01_k».proof.Proof.Tile
public import Idealize.ShloMosaic.Lib.Pipeline.Value

@[expose] public section

noncomputable section

namespace Cert.Proof.Chain

open Idealize.ShloMosaic Cert.KernelIdeal Cert.KernelIdeal.Gen Cert.Proof.Tile

variable {F : FTy → Type} [FloatOps F]

/-- Column block `g` lies inside the input. -/
theorem colBlock_inb (g : ℕ) (hg : g < 64) : ∀ a, (![0, 128 * g] : Fin S24x8192.rank → ℕ) a + S24x128.size a ≤ S24x8192.size a := by
  intro a; fin_cases a <;> simp <;> omega

/-- The store of column block `g` of the rotated input. -/
def rotPiece (x0 : Vec F S24x8192 .bf16) (x1 : Vec F S128x128 .f32) (g : ℕ) (hg : g < 64) : View.Piece (Elt F) S24x8192 .bf16 :=
  ⟨Rect.unit ![0, 128 * g] S24x128.size (colBlock_inb g hg),
   rot (View.ld x0 (Rect.unit ![0, 128 * g] S24x128.size (colBlock_inb g hg))) x1⟩

/-- The stores of the first `n` column blocks, the last one first. -/
def rotPieces (x0 : Vec F S24x8192 .bf16) (x1 : Vec F S128x128 .f32) : (n : ℕ) → n ≤ 64 → List (View.Piece (Elt F) S24x8192 .bf16)
  | 0, _ => []
  | n + 1, h => rotPiece x0 x1 n (by omega) :: rotPieces x0 x1 n (by omega)

/-- The accumulator after the first `n` weight tiles. -/
def acc (x2 : Vec F S4096x1024 .i8) (x3 : Vec F S64x1024 .bf16) (xr : Vec F S24x8192 .bf16) : (n : ℕ) → n ≤ 32 → FVec F S24x1024 .f32
  | 0, _ => broadcast S24x1024 (Scalar.ofBits .f32 0x00000000#32)
  | n + 1, h => step (acc x2 x3 xr n (by omega))
      (View.ld x2 (Rect.unit ![128 * n, 0] S128x1024.size (by intro a; fin_cases a <;> simp <;> omega)))
      (View.ld x3 (Rect.unit ![2 * n, 0] S1x1024.size (by intro a; fin_cases a <;> simp <;> omega)))
      (View.ld x3 (Rect.unit ![2 * n + 1, 0] S1x1024.size (by intro a; fin_cases a <;> simp <;> omega)))
      (View.ld xr (Rect.unit ![0, 256 * n] S24x256.size (by intro a; fin_cases a <;> simp <;> omega)))

/-- What a grid point stores into its output block, from the staged weight and scale blocks and the rotated input. -/
def tileOut (x2 : Vec F S4096x1024 .i8) (x3 : Vec F S64x1024 .bf16) (xr : Vec F S24x8192 .bf16) : FVec F S24x1024 .bf16 :=
  truncf .bf16 (acc x2 x3 xr 32 (by omega)) bitsLt_bf16_f32

/-! ## Over the ideal floats -/

/-- The rotated input: each block of 128 columns times the Hadamard matrix. -/
def rotated (x0 : Vec Ideal S24x8192 .bf16) (x1 : Vec Ideal S128x128 .f32) : Vec Ideal S24x8192 .bf16 := fun y =>
  ∑ j : Fin 128, (x0 (ix2 (y 0) ⟨128 * ((y 1).val / 128) + j.val, by have := (y 1).isLt; simp at this; omega⟩) : EReal)
    * x1 (ix2 j ⟨(y 1).val % 128, by omega⟩)

/-- The summand of weight row `k` in output entry (i, n) (zero past the last row). -/
def term (x2 : Vec Ideal S4096x1024 .i8) (x3 : Vec Ideal S64x1024 .bf16) (xr : Vec Ideal S24x8192 .bf16) (i : Fin 24) (n : Fin 1024)
    (k : ℕ) : EReal :=
  if h : k < 8192 then
    (xr (ix2 i ⟨k, h⟩) : EReal) * ((((code (x2 (ix2 ⟨k / 2, by omega⟩ n)) k : ℤ) : ℝ) : EReal) * x3 (ix2 ⟨k / 128, by omega⟩ n))
  else 0

/-- After `t` tiles the accumulator holds the sum over the first `256 t` weight rows. -/
theorem acc_apply (x2 : Vec Ideal S4096x1024 .i8) (x3 : Vec Ideal S64x1024 .bf16) (xr : Vec Ideal S24x8192 .bf16) (i : Fin 24)
    (n : Fin 1024) : ∀ (t : ℕ) (h : t ≤ 32),
      acc (F := Ideal) x2 x3 xr t h (ix2 i n) = ∑ k ∈ Finset.range (256 * t), term x2 x3 xr i n k
  | 0, _ => by
    unfold acc
    rw [Nat.mul_zero, Finset.sum_range_zero]
    pointwise
  | t + 1, h => by
    unfold acc
    rw [step_apply, acc_apply x2 x3 xr i n t (by omega), show 256 * (t + 1) = 256 * t + 256 from by omega, Finset.sum_range_add]
    refine congrArg _ ?_
    rw [Finset.sum_range]
    refine Finset.sum_congr rfl fun k _ => ?_
    have hk := k.isLt
    rw [deq_apply, term, dif_pos (by omega)]
    pointwise
    have e1 : (ix2 (⟨128 * t + k.val / 2, by omega⟩ : Fin 4096) n) = ix2 ⟨(256 * t + k.val) / 2, by omega⟩ n := by
      congr 1; exact Fin.ext (by show 128 * t + k.val / 2 = (256 * t + k.val) / 2; omega)
    have e2 : ∀ b : BitVec 8, code b k.val = code b (256 * t + k.val) := fun b => by
      unfold code; rw [show (256 * t + k.val) % 2 = k.val % 2 from by omega]
    rw [e1, e2]
    congr 2
    split
    · congr 2; exact Fin.ext (by show 2 * t = (256 * t + k.val) / 128; omega)
    · congr 2; exact Fin.ext (by show 2 * t + 1 = (256 * t + k.val) / 128; omega)

/-- Column block `n`'s rectangle places (a, b) at column `128 n + b`. -/
theorem colBlock_emb (n : ℕ) (hn : n < 64) (inb) (a : Fin 24) (b : Fin 128) :
    (Rect.unit (s := S24x8192) ![0, 128 * n] S24x128.size inb).emb (ix2 a b : S24x128.Idx) = ix2 a ⟨128 * n + b.val, by omega⟩ := by
  funext d
  refine Fin.ext ((ValueKit.rect_emb_unit_val (s := S24x8192) _ _ _ _ d).trans ?_)
  fin_cases d
  · exact Nat.zero_add _
  · rfl

/-- The stores of the first `n` column blocks hold the rotated input. -/
theorem rotPieces_ok (x0' : Vec Ideal S24x8192 .bf16) (x1' : Vec Ideal S128x128 .f32) : ∀ (n : ℕ) (h : n ≤ 64),
    ∀ p ∈ rotPieces (F := Ideal) x0' x1' n h, ∀ x : p.1.shape.Idx, p.2 x = rotated x0' x1' (p.1.emb x)
  | 0, _ => by intro p hp; simp [rotPieces] at hp
  | n + 1, h => by
    intro p hp
    rcases List.mem_cons.mp hp with rfl | hp
    · intro x
      idx_vars x
      show rot (F := Ideal) _ _ _ = rotated _ _ ((Rect.unit (s := S24x8192) ![0, 128 * n] S24x128.size (colBlock_inb n (by omega))).emb (ix2 x0 x1 : S24x128.Idx))
      rw [rot_apply, colBlock_emb n (by omega)]
      unfold rotated
      pointwise
      have hx := x1.isLt
      refine Finset.sum_congr rfl fun j _ => ?_
      refine congrArg₂ (fun a b : EReal => a * b) (congrArg x0' (congrArg₂ ix2 rfl (Fin.ext ?_)))
        (congrArg x1' (congrArg₂ ix2 rfl (Fin.ext ?_)))
      · show 128 * n + j.val = 128 * ((128 * n + x1.val) / 128) + j.val
        omega
      · show x1.val = (128 * n + x1.val) % 128
        omega
    · exact rotPieces_ok x0' x1' n _ p hp

end Cert.Proof.Chain

end
-- ==== Proof.Body.lean ====
/-
  Hand-written, untrusted. What the kernel body stores at a grid point, in each of its two cases: the first point fills the
  rotated input and stores the output tile computed from it, every other point stores the tile computed from the rotated
  input the point before left.
-/
module

public import proofs.«01_k».proof.Proof.Chain
public import proofs.«01_k».proof.Proof.Gen.KernelIdeal.Frame

@[expose] public section

set_option maxRecDepth 16384

noncomputable section

namespace Cert.Proof.Body

open Idealize.ShloMosaic Idealize.SL.Sem Cert.KernelIdeal Cert.KernelIdeal.Gen Cert.Proof.Tile Cert.Proof.Chain
open Idealize.ShloMosaic.TcCoe

variable {F : FTy → Type} [FloatOps F]

variable (c : Dev nD) (i : grid0.Coords) (arg1 : Memref sig .tc .vmem S24x8192 .bf16) (harg1 : arg1.IsWhole)
  (arg2 : Memref sig .tc .vmem S128x128 .f32) (harg2 : arg2.IsWhole) (arg3 : Memref sig .tc .vmem S4096x1024 .i8) (harg3 : arg3.IsWhole)
  (arg4 : Memref sig .tc .vmem S64x1024 .bf16) (harg4 : arg4.IsWhole) (arg5 : Memref sig .tc .vmem S24x1024 .bf16) (harg5 : arg5.IsWhole)
  (arg6 : Memref sig .tc .vmem S24x8192 .bf16) (harg6 : arg6.IsWhole)

/-- A point past the first stores the tile computed from the rotated input it finds. -/
theorem out_B (hc0 : ¬cond0_0 i) (x0 : Vec F S24x8192 .bf16) (x1 : Vec F S128x128 .f32) (x2 : Vec F S4096x1024 .i8) (x3 : Vec F S64x1024 .bf16)
    (xs0 : Vec F S24x8192 .bf16) :
    out0_B_4 c i arg1 harg1 arg2 harg2 arg3 harg3 arg4 harg4 arg5 harg5 arg6 harg6 hc0 x0 x1 x2 x3 xs0 = tileOut x2 x3 xs0 := by
  frame_out
  rfl

/-- The first point's stores into the rotated input are its 64 column blocks. -/
theorem run_A_scratch (hc0 : cond0_0 i) (x0 : Vec F S24x8192 .bf16) (x1 : Vec F S128x128 .f32) (x2 : Vec F S4096x1024 .i8) (x3 : Vec F S64x1024 .bf16) :
    (kernelRun0_A c i arg1 harg1 arg2 harg2 arg3 harg3 arg4 harg4 arg5 harg5 arg6 harg6 hc0 x0 x1 x2 x3).2.1 = rotPieces x0 x1 64 (by omega) := by
  frame_out
  rfl

/-- The first point stores the tile computed from the rotated input its own 64 stores leave. -/
theorem out_A (hc0 : cond0_0 i) (x0 : Vec F S24x8192 .bf16) (x1 : Vec F S128x128 .f32) (x2 : Vec F S4096x1024 .i8) (x3 : Vec F S64x1024 .bf16) :
    out0_A_4 c i arg1 harg1 arg2 harg2 arg3 harg3 arg4 harg4 arg5 harg5 arg6 harg6 hc0 x0 x1 x2 x3
      = tileOut x2 x3 (View.canon (rotPieces x0 x1 64 (by omega))) := by
  frame_open
  simp (disch := decide) only [View.read_writes_junk_eq_canon, View.canon_cons_unit_lit', View.readCov_eq_canon',
        View.ld_unit_lit', View.readAt_eq_ld, Memref.IsWhole.read_unread]
  rfl

end Cert.Proof.Body

end
-- ==== Proof.Value.lean ====
/-
  Hand-written, untrusted. What the kernel's program leaves in its result over the ideal floats: at entry (i, n) the sum over
  the 8192 weight rows of the rotated input times the dequantised weight.
-/
module

public import proofs.«01_k».proof.Proof.Body
public import Idealize.ShloMosaic.Lib.Claim

@[expose] public section

set_option maxRecDepth 16384

noncomputable section

namespace Cert.Proof.Value

open Idealize.ShloMosaic Idealize.SL.Sem Idealize.ShloMosaic.Pipeline Cert.KernelIdeal Cert.KernelIdeal.Gen
open Cert.Proof.Tile Cert.Proof.Chain Cert.Proof.Body
open Idealize.ShloMosaic.TcCoe

/-- The summand of weight row `k` in output entry (i, n) of the whole product (zero past the last row). -/
def term (p : Vec Ideal S4096x45056 .i8) (s : Vec Ideal S64x45056 .bf16) (xr : Vec Ideal S24x8192 .bf16) (i : Fin 24) (n : Fin 45056)
    (k : ℕ) : EReal :=
  if h : k < 8192 then
    (xr (ix2 i ⟨k, h⟩) : EReal) * ((((code (p (ix2 ⟨k / 2, by omega⟩ n)) k : ℤ) : ℝ) : EReal) * s (ix2 ⟨k / 128, by omega⟩ n))
  else 0

/-- The whole product: the rotated input times the dequantised weights. -/
def product (x : Vec Ideal S24x8192 .bf16) (h : Vec Ideal S128x128 .f32) (p : Vec Ideal S4096x45056 .i8) (s : Vec Ideal S64x45056 .bf16) :
    Vec Ideal S24x45056 .bf16 := fun y =>
  ∑ k ∈ Finset.range 8192, term p s (rotated x h) (y 0) (y 1) k

section Case

variable (c : Dev nD) (i : grid0.Coords) (arg1 : Memref sig .tc .vmem S24x8192 .bf16) (harg1 : arg1.IsWhole)
  (arg2 : Memref sig .tc .vmem S128x128 .f32) (harg2 : arg2.IsWhole) (arg3 : Memref sig .tc .vmem S4096x1024 .i8) (harg3 : arg3.IsWhole)
  (arg4 : Memref sig .tc .vmem S64x1024 .bf16) (harg4 : arg4.IsWhole) (arg5 : Memref sig .tc .vmem S24x1024 .bf16) (harg5 : arg5.IsWhole)
  (arg6 : Memref sig .tc .vmem S24x8192 .bf16) (harg6 : arg6.IsWhole)

include c i harg1 harg2 harg3 harg4 harg5 harg6 in
/-- The 64 column blocks the first point stores are together the rotated input. -/
theorem canon_rot (hc0 : cond0_0 i) (x0 : Vec Ideal S24x8192 .bf16) (x1 : Vec Ideal S128x128 .f32) (x2 : Vec Ideal S4096x1024 .i8)
    (x3 : Vec Ideal S64x1024 .bf16) :
    View.canon (rotPieces (F := Ideal) x0 x1 64 (by omega)) = rotated x0 x1 := by
  funext y
  exact View.canon_apply_of_pieces (rotated x0 x1) _ (rotPieces_ok x0 x1 64 (by omega)) y
    (run_A_scratch (F := Ideal) c i arg1 harg1 arg2 harg2 arg3 harg3 arg4 harg4 arg5 harg5 arg6 harg6 hc0 x0 x1 x2 x3 ▸
      scover0_A_0 (F := Ideal) c i arg1 harg1 arg2 harg2 arg3 harg3 arg4 harg4 arg5 harg5 arg6 harg6 hc0 x0 x1 x2 x3 y)

/-- The first point leaves the rotated input in the scratch buffer. -/
theorem sout_A (hc0 : cond0_0 i) (x0 : Vec Ideal S24x8192 .bf16) (x1 : Vec Ideal S128x128 .f32) (x2 : Vec Ideal S4096x1024 .i8)
    (x3 : Vec Ideal S64x1024 .bf16) :
    sout0_A_0 (F := Ideal) c i arg1 harg1 arg2 harg2 arg3 harg3 arg4 harg4 arg5 harg5 arg6 harg6 hc0 x0 x1 x2 x3 = rotated x0 x1 := by
  unfold sout0_A_0
  rw [View.read_writes_junk_eq_canon, run_A_scratch]
  exact canon_rot c i arg1 harg1 arg2 harg2 arg3 harg3 arg4 harg4 arg5 harg5 arg6 harg6 hc0 x0 x1 x2 x3

end Case

variable (m : (ℓ : Loc nD τ sig) → Buf (Elt Ideal) ℓ)

/-- Every point's input window is the whole input. -/
theorem index0 : ∀ t : Fin cfg0.N, win0_0.index t = ![0, 0] := (by decide +kernel : ∀ t : Fin grid0.N, _)
/-- Every point's Hadamard window is the whole matrix. -/
theorem index1 : ∀ t : Fin cfg0.N, win0_1.index t = ![0, 0] := (by decide +kernel : ∀ t : Fin grid0.N, _)
/-- Point `t`'s packed-weight window is column block `t`. -/
theorem index2 : ∀ t : Fin cfg0.N, win0_2.index t = ![0, t.val] := (by decide +kernel : ∀ t : Fin grid0.N, _)
/-- Point `t`'s scale window is column block `t`. -/
theorem index3 : ∀ t : Fin cfg0.N, win0_3.index t = ![0, t.val] := (by decide +kernel : ∀ t : Fin grid0.N, _)
/-- Point `t`'s output window is column block `t`. -/
theorem index4 : ∀ t : Fin cfg0.N, win0_4.index t = ![0, t.val] := (by decide +kernel : ∀ t : Fin grid0.N, _)

/-- The input the kernel is handed is the argument, its unit axis dropped. -/
theorem entry_v17 (c : Dev nD) : V m c main_v17 = shapeCast S24x8192 (m ((c : Thread nD τ).loc main_arg0)) shapeCasts_S24x1x8192_S24x8192 := by
  entry_read
  rfl

/-- Every point is handed the whole input. -/
theorem block0 (c : Dev nD) (t : Fin cfg0.N) : iblk m c 0 t = V m c main_v17 := by
  funext y
  blk_simp [iblk]
  congr 1
  blk_ext [index0]

/-- Every point is handed the whole Hadamard matrix. -/
theorem block1 (c : Dev nD) (t : Fin cfg0.N) : iblk m c 1 t = V m c main_v16 := by
  funext y
  blk_simp [iblk]
  congr 1
  blk_ext [index1]

/-- The packed weights point `t` is handed: columns `1024 t` and on. -/
theorem block2 (c : Dev nD) (t : Fin cfg0.N) (r : Fin 4096) (n : Fin 1024) (h : 1024 * t.val + n.val < 45056) :
    iblk m c 2 t (ix2 r n : S4096x1024.Idx) = V m c main_arg1 (ix2 r ⟨1024 * t.val + n.val, h⟩ : S4096x45056.Idx) := by
  blk_simp [iblk]
  congr 1
  blk_ext [index2]

/-- The scales point `t` is handed: columns `1024 t` and on. -/
theorem block3 (c : Dev nD) (t : Fin cfg0.N) (r : Fin 64) (n : Fin 1024) (h : 1024 * t.val + n.val < 45056) :
    iblk m c 3 t (ix2 r n : S64x1024.Idx) = V m c main_arg2 (ix2 r ⟨1024 * t.val + n.val, h⟩ : S64x45056.Idx) := by
  blk_simp [iblk]
  congr 1
  blk_ext [index3]

/-- After every point the scratch buffer holds the rotated input. -/
theorem scratch (c : Dev nD) : ∀ (n : ℕ) (hn : n < cfg0.N), (outsAt0 m c n hn).2 = rotated (V m c main_v17) (V m c main_v16)
  | 0, hn => by
    rw [outsAt0_A m c ⟨0, hn⟩ rfl]
    dsimp only
    rw [sout_A, block0, block1]
  | n + 1, hn => by
    have h : ¬(n + 1) % 44 = 0 := by have : n + 1 < 44 := hn; omega
    rw [outsAt0_B m c ⟨n + 1, hn⟩ h]
    dsimp only
    unfold sout0_B_0
    have e := scratch c n (by omega)
    exact e

/-- Every point stores the tile computed from its weights, its scales and the rotated input. -/
theorem tile (c : Dev nD) (t : Fin cfg0.N) :
    (outsAt0 m c t.val t.isLt).1 = tileOut (iblk m c 2 t) (iblk m c 3 t) (rotated (V m c main_v17) (V m c main_v16)) := by
  by_cases h : t.val % 44 = 0
  · rw [outsAt0_A m c t h]
    dsimp only
    rw [out_A, canon_rot c (grid0.coords t) _ (hs0_0 t) _ (hs0_1 t) _ (hs0_2 t) _ (hs0_3 t) _ (hs0_4 t) scM0_0 (Memref.isWhole_whole _) ((hcond0_0 t).mpr h)
        _ _ (iblk m c 2 t) (iblk m c 3 t), block0, block1]
  · rw [outsAt0_B m c t h]
    dsimp only
    rw [out_B, scratch m c]

/-- The array of output tiles after the last point is the whole product. -/
theorem final (c : Dev nD) : (dats m 0 c).arrAt 4 cfg0.N
    = product (V m c main_v17) (V m c main_v16) (V m c main_arg1) (V m c main_arg2) := by
  refine (dats m 0 c).arrAt_eq_of_covers 4 _ (by decide +kernel) fun t hf y => ?_
  blk_simp
  rw [after0_4, tile]
  obtain ⟨i, n, rfl⟩ : ∃ (i : Fin 24) (n : Fin 1024), y = (ix2 i n : S24x1024.Idx) := ⟨y 0, y 1, by funext a; fin_cases a <;> rfl⟩
  have hn : 1024 * t.val + n.val < 45056 := by have := t.isLt; have h2 : t.val < 44 := this; have := n.isLt; omega
  have e : (win0_4.blk t).view.emb (ix2 i n : S24x1024.Idx) = (ix2 i ⟨1024 * t.val + n.val, hn⟩ : S24x45056.Idx) := by
    blk_ext [index4]
  rw [e]
  refine (acc_apply (iblk m c 2 t) (iblk m c 3 t) (rotated (V m c main_v17) (V m c main_v16)) i n 32 (by omega)).trans ?_
  refine Finset.sum_congr rfl fun k _ => ?_
  unfold Chain.term term
  split
  · rename_i hk
    rw [block2 m c t _ n hn, block3 m c t _ n hn]
    rfl
  · rfl

/-- The array the reshape after the kernel reads is the kernel's output. -/
theorem exit_v18 (c : Dev nD) :
    withArrays (cfgs 0).spec c (V0 m c) (fun w => (dats m 0 c).arrAt w (cfgs 0).N) (Proc.devRef .tc main_v18)
      = product (V m c main_v17) (V m c main_v16) (V m c main_arg1) (V m c main_arg2) :=
  (withArrays_arr (cfgs 0).spec (by decide +kernel) c (V0 m c) _ 4).trans (final m c)

/-- The program runs and its result is the whole product, reshaped. -/
theorem result (ρ : Dev nD → PrngReg) : θ_run defs (onTc (τ := τ) (main (F := Ideal))) ⟨m, fun _ => 0, ρ⟩ (fun r => ∀ c : Dev nD,
      r.2.mem ((c.tc : Thread nD τ).loc main_v19)
        = shapeCast S24x1x45056 (product (V m c main_v17) (V m c main_v16) (V m c main_arg1) (V m c main_arg2)) shapeCasts_S24x45056_S24x1x45056) := by
  refine (θ_run defs _ _).mono (fun r h c => ?_) (run_main m ρ)
  refine (FramePost.rest_eq h c main_v19 (by decide)).trans ?_
  show StableHlo.after [hostOps1].flatten (withArrays (cfgs 0).spec c (V0 m c) fun w => (dats m 0 c).arrAt w (cfgs 0).N) (Proc.devRef .tc main_v19) = _
  simp only [List.flatten_cons, List.flatten_nil, List.append_nil]
  after_results
  rw [exit_v18]
  rfl

end Cert.Proof.Value

end
-- ==== Proof.Hadamard.lean ====
/-
  Hand-written, untrusted. Both programs build the 128x128 Hadamard matrix on the host by the same seven doublings; the
  matrix the kernel is handed is the one the reference uses.
-/
module

public import proofs.«01_k».proof.Proof.Gen.KernelIdeal.Frame
public import proofs.«01_k».proof.Proof.Gen.ReferenceIdeal.Read
public import Idealize.ShloMosaic.Lib.Claim

@[expose] public section

set_option maxRecDepth 16384

noncomputable section

namespace Cert.Proof.Hadamard

open Idealize.ShloMosaic Idealize.SL.Sem Idealize.ShloMosaic.Pipeline Cert.KernelIdeal Cert.KernelIdeal.Gen Idealize.ShloMosaic.StableHlo
open Cert.ReferenceIdeal.Read
open Idealize.ShloMosaic.TcCoe

variable {F : FTy → Type} [FloatOps F] (σ : Valuation τ sig (Elt F))

/-- The 1x1 matrix of one and its negation. -/
theorem start : after hostOps0 σ (Proc.devRef .tc main_v0) = val_main_v0 (F := F)
    ∧ after hostOps0 σ (Proc.devRef .tc main_v1) = val_main_v1 (F := F) := by
  constructor <;> after_results <;> rfl

/-- The doubling to 2x2, and the result's negation. -/
theorem double2 (h : σ (Proc.devRef .tc main_v0) = val_main_v0 (F := F)) (h' : σ (Proc.devRef .tc main_v1) = val_main_v1 (F := F)) :
    after hostOps0_2 (after hostOps0_1 σ) (Proc.devRef .tc main_v2) = val_main_v2 (F := F)
      ∧ after hostOps0_2 (after hostOps0_1 σ) (Proc.devRef .tc main_v3) = val_main_v3 (F := F) := by
  have e : after hostOps0_1 σ (Proc.devRef .tc main_v2) = val_main_v2 (F := F) := by
    simp only [hostOps0_1, TRef.binary, TRef.toBuf, TRef.ofBuf, cast_eq]
    after_results
    rw [h, h']
    rfl
  generalize after hostOps0_1 σ = ρ at e ⊢
  constructor <;> after_results <;> rw [e] <;> rfl

/-- The doubling to 4x4, and the result's negation. -/
theorem double4 (h : σ (Proc.devRef .tc main_v2) = val_main_v2 (F := F)) (h' : σ (Proc.devRef .tc main_v3) = val_main_v3 (F := F)) :
    after hostOps0_4 (after hostOps0_3 σ) (Proc.devRef .tc main_v4) = val_main_v4 (F := F)
      ∧ after hostOps0_4 (after hostOps0_3 σ) (Proc.devRef .tc main_v5) = val_main_v5 (F := F) := by
  have e : after hostOps0_3 σ (Proc.devRef .tc main_v4) = val_main_v4 (F := F) := by
    simp only [hostOps0_3, TRef.binary, TRef.toBuf, TRef.ofBuf, cast_eq]
    after_results
    rw [h, h']
    rfl
  generalize after hostOps0_3 σ = ρ at e ⊢
  constructor <;> after_results <;> rw [e] <;> rfl

/-- The doubling to 8x8, and the result's negation. -/
theorem double8 (h : σ (Proc.devRef .tc main_v4) = val_main_v4 (F := F)) (h' : σ (Proc.devRef .tc main_v5) = val_main_v5 (F := F)) :
    after hostOps0_6 (after hostOps0_5 σ) (Proc.devRef .tc main_v6) = val_main_v6 (F := F)
      ∧ after hostOps0_6 (after hostOps0_5 σ) (Proc.devRef .tc main_v7) = val_main_v7 (F := F) := by
  have e : after hostOps0_5 σ (Proc.devRef .tc main_v6) = val_main_v6 (F := F) := by
    simp only [hostOps0_5, TRef.binary, TRef.toBuf, TRef.ofBuf, cast_eq]
    after_results
    rw [h, h']
    rfl
  generalize after hostOps0_5 σ = ρ at e ⊢
  constructor <;> after_results <;> rw [e] <;> rfl

/-- The doubling to 16x16, and the result's negation. -/
theorem double16 (h : σ (Proc.devRef .tc main_v6) = val_main_v6 (F := F)) (h' : σ (Proc.devRef .tc main_v7) = val_main_v7 (F := F)) :
    after hostOps0_8 (after hostOps0_7 σ) (Proc.devRef .tc main_v8) = val_main_v8 (F := F)
      ∧ after hostOps0_8 (after hostOps0_7 σ) (Proc.devRef .tc main_v9) = val_main_v9 (F := F) := by
  have e : after hostOps0_7 σ (Proc.devRef .tc main_v8) = val_main_v8 (F := F) := by
    simp only [hostOps0_7, TRef.binary, TRef.toBuf, TRef.ofBuf, cast_eq]
    after_results
    rw [h, h']
    rfl
  generalize after hostOps0_7 σ = ρ at e ⊢
  constructor <;> after_results <;> rw [e] <;> rfl

/-- The doubling to 32x32, and the result's negation. -/
theorem double32 (h : σ (Proc.devRef .tc main_v8) = val_main_v8 (F := F)) (h' : σ (Proc.devRef .tc main_v9) = val_main_v9 (F := F)) :
    after hostOps0_10 (after hostOps0_9 σ) (Proc.devRef .tc main_v10) = val_main_v10 (F := F)
      ∧ after hostOps0_10 (after hostOps0_9 σ) (Proc.devRef .tc main_v11) = val_main_v11 (F := F) := by
  have e : after hostOps0_9 σ (Proc.devRef .tc main_v10) = val_main_v10 (F := F) := by
    simp only [hostOps0_9, TRef.binary, TRef.toBuf, TRef.ofBuf, cast_eq]
    after_results
    rw [h, h']
    rfl
  generalize after hostOps0_9 σ = ρ at e ⊢
  constructor <;> after_results <;> rw [e] <;> rfl

/-- The doubling to 64x64, and the result's negation. -/
theorem double64 (h : σ (Proc.devRef .tc main_v10) = val_main_v10 (F := F)) (h' : σ (Proc.devRef .tc main_v11) = val_main_v11 (F := F)) :
    after hostOps0_12 (after hostOps0_11 σ) (Proc.devRef .tc main_v12) = val_main_v12 (F := F)
      ∧ after hostOps0_12 (after hostOps0_11 σ) (Proc.devRef .tc main_v13) = val_main_v13 (F := F) := by
  have e : after hostOps0_11 σ (Proc.devRef .tc main_v12) = val_main_v12 (F := F) := by
    simp only [hostOps0_11, TRef.binary, TRef.toBuf, TRef.ofBuf, cast_eq]
    after_results
    rw [h, h']
    rfl
  generalize after hostOps0_11 σ = ρ at e ⊢
  constructor <;> after_results <;> rw [e] <;> rfl

/-- The last doubling, to 128x128, and the scaling. -/
theorem double128 (h : σ (Proc.devRef .tc main_v12) = val_main_v12 (F := F)) (h' : σ (Proc.devRef .tc main_v13) = val_main_v13 (F := F)) :
    after hostOps0_14 (after hostOps0_13 σ) (Proc.devRef .tc main_v16) = val_main_v16 (F := F) := by
  have e : after hostOps0_13 σ (Proc.devRef .tc main_v14) = val_main_v14 (F := F) := by
    simp only [hostOps0_13, TRef.binary, TRef.toBuf, TRef.ofBuf, cast_eq]
    after_results
    rw [h, h']
    rfl
  generalize after hostOps0_13 σ = ρ at e ⊢
  after_results
  rw [e]
  rfl

/-- The matrix the kernel is handed is the reference's Hadamard matrix. -/
theorem entry_v16 (m : (ℓ : Loc nD τ sig) → Buf (Elt F) ℓ) (c : Dev nD) : V m c main_v16 = val_main_v16 (F := F) := by
  show after [hostOps0, hostOps0_1, hostOps0_2, hostOps0_3, hostOps0_4, hostOps0_5, hostOps0_6, hostOps0_7, hostOps0_8, hostOps0_9,
    hostOps0_10, hostOps0_11, hostOps0_12, hostOps0_13, hostOps0_14].flatten (fun b => m (c, b)) (Proc.devRef .tc main_v16) = _
  rw [List.flatten_cons, List.flatten_cons, List.flatten_cons, List.flatten_cons, List.flatten_cons, List.flatten_cons, List.flatten_cons,
    List.flatten_cons, List.flatten_cons, List.flatten_cons, List.flatten_cons, List.flatten_cons, List.flatten_cons, List.flatten_cons,
    List.flatten_cons, List.flatten_nil, List.append_nil]
  rw [after_append, after_append, after_append, after_append, after_append, after_append, after_append, after_append, after_append,
    after_append, after_append, after_append, after_append, after_append]
  have h1 := start (F := F) (fun b => m (c, b))
  have h2 := double2 _ h1.1 h1.2
  have h4 := double4 _ h2.1 h2.2
  have h8 := double8 _ h4.1 h4.2
  have h16 := double16 _ h8.1 h8.2
  have h32 := double32 _ h16.1 h16.2
  have h64 := double64 _ h32.1 h32.2
  exact double128 _ h64.1 h64.2

end Cert.Proof.Hadamard

end
-- ==== Proof.Reference.lean ====
/-
  Hand-written, untrusted. The reference's result over the ideal floats is the same whole product: its two half products,
  over the even and the odd weight rows, add up to the sum over all rows.
-/
module

public import proofs.«01_k».proof.Proof.Value
public import proofs.«01_k».proof.Proof.Gen.ReferenceIdeal.Read

@[expose] public section

set_option maxRecDepth 16384

noncomputable section

namespace Cert.Proof.Reference

open Idealize.ShloMosaic Idealize.SL.Sem Cert.ReferenceIdeal Cert.ReferenceIdeal.Gen Cert.ReferenceIdeal.Read
open Cert.Proof.Tile Cert.Proof.Chain

/-- Sign-extending a byte, shifting left by 28 and back leaves the signed value of its low nibble. -/
theorem low_int : ∀ b : BitVec 8, (IntOp.shrsi .host (IntOp.shli .host (b.signExtend 32) 28#32) 28#32).toInt = (b.setWidth 4).toInt := by
  decide +kernel

/-- Sign-extending a byte and shifting right by 4 leaves the signed value of its high nibble. -/
theorem high_int : ∀ b : BitVec 8, (IntOp.shrsi .host (b.signExtend 32) 4#32).toInt = ((b >>> 4).setWidth 4).toInt := by
  decide +kernel

/-- A sum over the first `2 n` numbers is the sum over the even ones plus the sum over the odd ones. -/
theorem sum_even_odd (f : ℕ → EReal) : ∀ n : ℕ,
    ∑ k ∈ Finset.range (2 * n), f k = ∑ r ∈ Finset.range n, f (2 * r) + ∑ r ∈ Finset.range n, f (2 * r + 1)
  | 0 => by simp
  | n + 1 => by
    rw [show 2 * (n + 1) = 2 * n + 1 + 1 from rfl, Finset.sum_range_succ, Finset.sum_range_succ, sum_even_odd f n,
      Finset.sum_range_succ, Finset.sum_range_succ, add_assoc, add_add_add_comm]

variable (x0 : Vec Ideal S24x1x8192 .bf16) (x1 : Vec Ideal S4096x45056 .i8) (x2 : Vec Ideal S64x45056 .bf16)

/-- The input with its unit axis dropped. -/
abbrev input : Vec Ideal Cert.KernelIdeal.S24x8192 .bf16 :=
  shapeCast Cert.KernelIdeal.S24x8192 x0 Cert.KernelIdeal.Gen.facts.shapeCasts_S24x1x8192_S24x8192

/-- Entry (i, k) of that is entry (i, 0, k) of the argument. -/
theorem input_apply (i : Fin 24) (k : Fin 8192) : input x0 (ix2 i k) = x0 (ix3 i 0 k) := by
  unfold input
  pointwise

/-- The summand of weight row `k` in output entry (i, n). -/
abbrev tm (i : Fin 24) (n : Fin 45056) (k : ℕ) : EReal :=
  Value.term x1 x2 (rotated (input x0) (val_main_v16 (F := Ideal))) i n k

/-- The even half of the Hadamard matrix at (j, q) is its column `2 q`. -/
theorem had_even (j : Fin 128) (q : Fin 64) : val_main_v19 (F := Ideal) (ix2 j q) = val_main_v16 (F := Ideal) (ix2 j ⟨2 * q.val, by omega⟩) := by
  unfold val_main_v19
  generalize val_main_v16 (F := Ideal) = h
  pointwise

/-- The odd half of the Hadamard matrix at (j, q) is its column `2 q + 1`. -/
theorem had_odd (j : Fin 128) (q : Fin 64) : val_main_v23 (F := Ideal) (ix2 j q) = val_main_v16 (F := Ideal) (ix2 j ⟨1 + 2 * q.val, by omega⟩) := by
  unfold val_main_v23
  generalize val_main_v16 (F := Ideal) = h
  pointwise

/-- The rotated input at (i, k). -/
theorem rotated_apply (x : Vec Ideal Cert.KernelIdeal.S24x8192 .bf16) (h : Vec Ideal S128x128 .f32) (i : Fin 24) (k : Fin 8192) :
    rotated x h (ix2 i k) = ∑ j : Fin 128, (x (ix2 i ⟨128 * (k.val / 128) + j.val, by omega⟩) : EReal) * h (ix2 j ⟨k.val % 128, by omega⟩) := rfl

/-- Rotated column `r` of either half takes column `r % 64` of the half matrix. -/
theorem had_idx (i : Fin 24) (r : Fin 4096) (j : Fin 128) : ridx_main_v20 (idx_main_v22 (ix2 i r)) j = ix2 j ⟨r.val % 64, by omega⟩ := by
  funext a
  match a with
  | ⟨0, _⟩ => rfl
  | ⟨1, _⟩ => exact Fin.ext (by show (i.val * 4096 + r.val) % 64 = r.val % 64; omega)

/-- Rotated column `r` of either half takes the input's columns `128 (r / 64) + j`. -/
theorem input_idx (i : Fin 24) (r : Fin 4096) (j : Fin 128) (k : Fin 8192) (h : k.val = 128 * (r.val / 64) + j.val) : idx_main_v18 (lidx_main_v20 (idx_main_v22 (ix2 i r)) j) = ix3 i 0 k := by
  funext a
  match a with
  | ⟨0, _⟩ => exact Fin.ext (by
      show (((i.val * 4096 + r.val) / 4096 * 64 + (i.val * 4096 + r.val) / 64 % 64) * 128 + j.val) / 8192 = i.val; omega)
  | ⟨1, _⟩ => rfl
  | ⟨2, _⟩ => exact Fin.ext (by
      show (((i.val * 4096 + r.val) / 4096 * 64 + (i.val * 4096 + r.val) / 64 % 64) * 128 + j.val) % 8192 = k.val; omega)

/-- The input times the even columns of the Hadamard matrix is the even columns of the rotated input. -/
theorem rot_even (i : Fin 24) (r : Fin 4096) : val_main_v22 (F := Ideal) x0 (ix2 i r)
    = rotated (input x0) (val_main_v16 (F := Ideal)) (ix2 i ⟨2 * r.val, by omega⟩) := by
  rw [val_main_v22_apply, val_main_v21_apply, rotated_apply]
  refine (val_main_v20_apply x0 _).trans ?_
  refine Finset.sum_congr rfl fun j _ => ?_
  have e : ridx_main_v20 (idx_main_v22 (ix2 i r)) j = ix2 j ⟨r.val % 64, by omega⟩ := had_idx i r j
  have e' : idx_main_v18 (lidx_main_v20 (idx_main_v22 (ix2 i r)) j) = ix3 i 0 ⟨128 * (2 * r.val / 128) + j.val, by omega⟩ :=
    input_idx i r j _ (by show 128 * (2 * r.val / 128) + j.val = _; omega)
  rw [val_main_v18_apply, val_main_v17_apply, e, e', had_even, input_apply]
  refine congrArg₂ (· * ·) rfl (congrArg (fun k => val_main_v16 (F := Ideal) (ix2 j k)) (Fin.ext ?_))
  show 2 * (r.val % 64) = 2 * r.val % 128
  omega

/-- The input times the odd columns of the Hadamard matrix is the odd columns of the rotated input. -/
theorem rot_odd (i : Fin 24) (r : Fin 4096) : val_main_v26 (F := Ideal) x0 (ix2 i r)
    = rotated (input x0) (val_main_v16 (F := Ideal)) (ix2 i ⟨2 * r.val + 1, by omega⟩) := by
  rw [val_main_v26_apply, val_main_v25_apply, rotated_apply]
  refine (val_main_v24_apply x0 _).trans ?_
  refine Finset.sum_congr rfl fun j _ => ?_
  have e : ridx_main_v24 (idx_main_v26 (ix2 i r)) j = ix2 j ⟨r.val % 64, by omega⟩ := had_idx i r j
  have e' : idx_main_v18 (lidx_main_v24 (idx_main_v26 (ix2 i r)) j) = ix3 i 0 ⟨128 * ((2 * r.val + 1) / 128) + j.val, by omega⟩ :=
    input_idx i r j _ (by show 128 * ((2 * r.val + 1) / 128) + j.val = _; omega)
  rw [val_main_v18_apply, val_main_v17_apply, e, e', had_odd, input_apply]
  refine congrArg₂ (· * ·) rfl (congrArg (fun k => val_main_v16 (F := Ideal) (ix2 j k)) (Fin.ext ?_))
  show 1 + 2 * (r.val % 64) = (2 * r.val + 1) % 128
  omega

/-- Regrouping the weight rows by scale and back moves no entry. -/
theorem weight_idx (r : Fin 4096) (n : Fin 45056) : idx_main_v36 (idx_main_v40 (ix2 r n)) = ix2 r n := by
  funext a
  match a with
  | ⟨0, _⟩ => exact Fin.ext (by
      show (((r.val * 45056 + n.val) / 2883584 * 64 + (r.val * 45056 + n.val) / 45056 % 64) * 45056 + (r.val * 45056 + n.val) % 45056) / 45056 = r.val; omega)
  | ⟨1, _⟩ => exact Fin.ext (by
      show (((r.val * 45056 + n.val) / 2883584 * 64 + (r.val * 45056 + n.val) / 45056 % 64) * 45056 + (r.val * 45056 + n.val) % 45056) % 45056 = n.val; omega)

/-- Weight row pair `r` takes scale row `r / 64`. -/
theorem scale_idx (r : Fin 4096) (n : Fin 45056) : idx_main_v37 (idx_main_v38 (idx_main_v40 (ix2 r n))) = ix2 ⟨r.val / 64, by omega⟩ n := by
  funext a
  match a with
  | ⟨0, _⟩ => exact Fin.ext (by show (r.val * 45056 + n.val) / 2883584 = r.val / 64; omega)
  | ⟨1, _⟩ => exact Fin.ext (by show (r.val * 45056 + n.val) % 45056 = n.val; omega)

/-- The even weight row `2 r`: the low nibble's value times the row's scale. -/
theorem weight_even (r : Fin 4096) (n : Fin 45056) : val_main_v40 (F := Ideal) x1 x2 (ix2 r n)
    = (((code (x1 (ix2 r n)) (2 * r.val) : ℤ) : ℝ) : EReal) * x2 (ix2 ⟨r.val / 64, by omega⟩ n) := by
  have e : idx_main_v36 (idx_main_v40 (ix2 r n)) = ix2 r n := weight_idx r n
  have e' : idx_main_v37 (idx_main_v38 (idx_main_v40 (ix2 r n))) = ix2 ⟨r.val / 64, by omega⟩ n := scale_idx r n
  rw [val_main_v40_apply, val_main_v39_apply, val_main_v36_apply, val_main_v38_apply, val_main_v37_apply, e, e', val_main_v35_apply,
    val_main_v32_apply, val_main_v30_apply, val_main_v28_apply, val_main_v27_apply, val_main_v29_apply, val_main_v31_apply, val_main_c_apply,
    val_main_c_1_apply]
  unfold code
  rw [if_pos (by omega), ← low_int]
  rfl

/-- The odd weight row `2 r + 1`: the high nibble's value times the row's scale. -/
theorem weight_odd (r : Fin 4096) (n : Fin 45056) : val_main_v46 (F := Ideal) x1 x2 (ix2 r n)
    = (((code (x1 (ix2 r n)) (2 * r.val + 1) : ℤ) : ℝ) : EReal) * x2 (ix2 ⟨r.val / 64, by omega⟩ n) := by
  have e : idx_main_v42 (idx_main_v46 (ix2 r n)) = ix2 r n := weight_idx r n
  have e' : idx_main_v43 (idx_main_v44 (idx_main_v46 (ix2 r n))) = ix2 ⟨r.val / 64, by omega⟩ n := scale_idx r n
  rw [val_main_v46_apply, val_main_v45_apply, val_main_v42_apply, val_main_v44_apply, val_main_v43_apply, e, e', val_main_v41_apply,
    val_main_v34_apply, val_main_v28_apply, val_main_v27_apply, val_main_v33_apply, val_main_c_2_apply]
  unfold code
  rw [if_neg (by omega), ← high_int]
  rfl

/-- The reference's result, before its last reshape, is the whole product. -/
theorem product_eq (i : Fin 24) (n : Fin 45056) : val_main_v50 (F := Ideal) x0 x1 x2 (ix2 i n)
    = Value.product (input x0) (val_main_v16 (F := Ideal)) x1 x2 (ix2 i n) := by
  have h47 : val_main_v47 (F := Ideal) x0 x1 x2 (ix2 i n) = ∑ r ∈ Finset.range 4096, tm x0 x1 x2 i n (2 * r) := by
    refine (val_main_v47_apply x0 x1 x2 _).trans ?_
    rw [← Fin.sum_univ_eq_sum_range (fun r => tm x0 x1 x2 i n (2 * r)) 4096]
    refine Finset.sum_congr rfl fun r _ => ?_
    rw [show lidx_main_v47 (ix2 i n) r = ix2 i r from by funext a; match a with | ⟨0, _⟩ => rfl | ⟨1, _⟩ => rfl,
      show ridx_main_v47 (ix2 i n) r = ix2 r n from by funext a; match a with | ⟨0, _⟩ => rfl | ⟨1, _⟩ => rfl, rot_even, weight_even]
    unfold tm Value.term
    rw [dif_pos (by omega)]
    congr 3
    · rw [show (⟨2 * r.val / 2, by omega⟩ : Fin 4096) = r from Fin.ext (by show 2 * r.val / 2 = r.val; omega)]
    · congr 1
      exact Fin.ext (by show r.val / 64 = 2 * r.val / 128; omega)
  have h48 : val_main_v48 (F := Ideal) x0 x1 x2 (ix2 i n) = ∑ r ∈ Finset.range 4096, tm x0 x1 x2 i n (2 * r + 1) := by
    refine (val_main_v48_apply x0 x1 x2 _).trans ?_
    rw [← Fin.sum_univ_eq_sum_range (fun r => tm x0 x1 x2 i n (2 * r + 1)) 4096]
    refine Finset.sum_congr rfl fun r _ => ?_
    rw [show lidx_main_v48 (ix2 i n) r = ix2 i r from by funext a; match a with | ⟨0, _⟩ => rfl | ⟨1, _⟩ => rfl,
      show ridx_main_v48 (ix2 i n) r = ix2 r n from by funext a; match a with | ⟨0, _⟩ => rfl | ⟨1, _⟩ => rfl, rot_odd, weight_odd]
    unfold tm Value.term
    rw [dif_pos (by omega)]
    congr 3
    · rw [show (⟨(2 * r.val + 1) / 2, by omega⟩ : Fin 4096) = r from Fin.ext (by show (2 * r.val + 1) / 2 = r.val; omega)]
    · congr 1
      exact Fin.ext (by show r.val / 64 = (2 * r.val + 1) / 128; omega)
  rw [val_main_v50_apply, val_main_v49_apply, h47, h48]
  exact (sum_even_odd (tm x0 x1 x2 i n) 4096).symm

/-- The reference's result is the whole product, reshaped. -/
theorem result_eq : val_main_v51 (F := Ideal) x0 x1 x2
    = shapeCast S24x1x45056 (Value.product (input x0) (val_main_v16 (F := Ideal)) x1 x2) shapeCasts_S24x45056_S24x1x45056 := by
  unfold val_main_v51
  refine congrArg (fun v => shapeCast S24x1x45056 v shapeCasts_S24x45056_S24x1x45056) (funext fun y => ?_)
  obtain ⟨i, n, rfl⟩ : ∃ (i : Fin 24) (n : Fin 45056), y = (ix2 i n : S24x45056.Idx) := ⟨y 0, y 1, by funext a; fin_cases a <;> rfl⟩
  exact product_eq x0 x1 x2 i n

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.Hadamard
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

/-- The reference runs, leaves its arguments as they were and every semaphore counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value both programs end with on core `c`: the rotated input times the dequantised weights, reshaped. -/
def value (m : (ℓ : Loc Cert.KernelIdeal.nD Cert.KernelIdeal.τ Cert.KernelIdeal.sig) → Buf (Elt Ideal) ℓ) (c : Dev Cert.KernelIdeal.nD) :
    Vec Ideal Cert.KernelIdeal.S24x1x45056 .bf16 :=
  shapeCast Cert.KernelIdeal.S24x1x45056
    (Value.product (Reference.input (m ((c.tc : Thread Cert.KernelIdeal.nD Cert.KernelIdeal.τ).loc Cert.KernelIdeal.main_arg0)))
      (Cert.ReferenceIdeal.Read.val_main_v16 (F := Ideal))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    Cert.KernelIdeal.Gen.facts.shapeCasts_S24x45056_S24x1x45056

/-- Over the ideal floats the kernel and the reference end with equal results. -/
theorem algebraic : Cert.algebraic_KernelIdeal_ReferenceIdeal := by
  intro m g m' g' _ hagree
  refine ⟨value m, ?_, ?_⟩
  · refine (θ_run _ _ _).mono (fun r h c => ⟨?_, h.2 c⟩) (θ_run_and (Value.result m g) (Cert.KernelIdeal.Gen.unchanged m g))
    rw [h.1 c, Value.entry_v17, Hadamard.entry_v16, Cert.KernelIdeal.Gen.V_main_arg1, Cert.KernelIdeal.Gen.V_main_arg2]
    rfl
  · refine (θ_run _ _ _).mono (fun r h c => ⟨?_, (h c).2⟩) (Cert.ReferenceIdeal.Value.run (F := Ideal) m' g')
    refine (h c).1.trans ((Cert.ReferenceIdeal.Read.val_main_v51_eq _).trans ((Reference.result_eq _ _ _).trans ?_))
    unfold value
    rw [← (hagree c).1, ← (hagree c).2.1, ← (hagree c).2.2]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
